-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S2048x328x256 : Shape := ⟨3, ![2048, 328, 256]⟩
abbrev S2048x328 : Shape := ⟨2, ![2048, 328]⟩
abbrev S256 : Shape := ⟨1, ![256]⟩
abbrev S2048x328x1 : Shape := ⟨3, ![2048, 328, 1]⟩
abbrev S_ : Shape := ⟨0, ![]⟩

class Facts : Prop where
  bcast_S2048x328_S2048x328x1_0_1 : S2048x328.BroadcastsInDim S2048x328x1 (![0, 1] : Fin 2 → Fin S2048x328x1.rank)
  bcast_S_S2048x328x256 : S_.BroadcastsInDim S2048x328x256 (![] : Fin 0 → Fin S2048x328x256.rank)
  bcast_S2048x328x1_S2048x328x256_0_1_2 : S2048x328x1.BroadcastsInDim S2048x328x256 (![0, 1, 2] : Fin 3 → Fin S2048x328x256.rank)
  bcast_S_S256 : S_.BroadcastsInDim S256 (![] : Fin 0 → Fin S256.rank)

variable [Facts]

def fn {F : FTy → Type} [FloatOps F] (main_arg0 : FVec F S2048x328x256 .f32) (main_arg1 : IVec S2048x328 1) (main_arg2 : FVec F S256 .f32) (main_arg3 : FVec F S256 .f32) (main_arg4 : FVec F S256 .f32) (main_arg5 : FVec F S256 .f32) : IVec S2048x328x256 1 × IVec S256 1 × IVec S256 1 :=
  let main_v0 : IVec S2048x328x1 1 := broadcastInDim S2048x328x1 ![0, 1] bcast_S2048x328_S2048x328x1_0_1 main_arg1
  let main_v1 : FVec F S2048x328x256 .f32 := Host.absf main_arg0
  let main_cst : FVec F S_ .f32 := constant S_ .f32 0x7F800000#32
  let main_v2 : FVec F S2048x328x256 .f32 := broadcastInDim S2048x328x256 ![] bcast_S_S2048x328x256 main_cst
  let main_v3 : IVec S2048x328x256 1 := cmpf .olt main_v1 main_v2
  let main_v4 : IVec S2048x328x256 1 := broadcastInDim S2048x328x256 ![0, 1, 2] bcast_S2048x328x1_S2048x328x256_0_1_2 main_v0
  let main_v5 : IVec S2048x328x256 1 := ori main_v4 main_v3
  let main_v6 : FVec F S256 .f32 := Host.absf main_arg2
  let main_cst_0 : FVec F S_ .f32 := constant S_ .f32 0x7F800000#32
  let main_v7 : FVec F S256 .f32 := broadcastInDim S256 ![] bcast_S_S256 main_cst_0
  let main_v8 : IVec S256 1 := cmpf .olt main_v6 main_v7
  let main_v9 : FVec F S256 .f32 := Host.absf main_arg4
  let main_cst_1 : FVec F S_ .f32 := constant S_ .f32 0x7F800000#32
  let main_v10 : FVec F S256 .f32 := broadcastInDim S256 ![] bcast_S_S256 main_cst_1
  let main_v11 : IVec S256 1 := cmpf .olt main_v9 main_v10
  (main_v5, main_v8, main_v11)
-- ==== Kernel.lean ====
abbrev S2048x328x256 : Shape := ⟨3, ![2048, 328, 256]⟩
abbrev S2048x328 : Shape := ⟨2, ![2048, 328]⟩
abbrev S256 : Shape := ⟨1, ![256]⟩
abbrev S1x1x256 : Shape := ⟨3, ![1, 1, 256]⟩
abbrev S32x328x256 : Shape := ⟨3, ![32, 328, 256]⟩
abbrev S32x328 : Shape := ⟨2, ![32, 328]⟩
abbrev S32x128 : Shape := ⟨2, ![32, 128]⟩
abbrev S32x200 : Shape := ⟨2, ![32, 200]⟩
abbrev S32 : Shape := ⟨1, ![32]⟩
abbrev S32x1 : Shape := ⟨2, ![32, 1]⟩
abbrev S32x1x1 : Shape := ⟨3, ![32, 1, 1]⟩
abbrev S32x128x256 : Shape := ⟨3, ![32, 128, 256]⟩
abbrev S32x1x128 : Shape := ⟨3, ![32, 1, 128]⟩
abbrev S32x1x256 : Shape := ⟨3, ![32, 1, 256]⟩
abbrev S32x256 : Shape := ⟨2, ![32, 256]⟩
abbrev S32x200x256 : Shape := ⟨3, ![32, 200, 256]⟩
abbrev S32x1x200 : Shape := ⟨3, ![32, 1, 200]⟩

abbrev nBuf : Space → Nat
  | .hbm => 12
  | .vmem => 10
  | .smem => 0
  | _ => 0

abbrev bufTy : (tb : Table) → Fin (tcTables nBuf tb) → BufTy
  | .hbm, ⟨0, _⟩ => ⟨S2048x328x256, .f32⟩
  | .hbm, ⟨1, _⟩ => ⟨S2048x328, .i1⟩
  | .hbm, ⟨2, _⟩ => ⟨S256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S1x1x256, .f32⟩
  | .hbm, ⟨7, _⟩ => ⟨S1x1x256, .f32⟩
  | .hbm, ⟨8, _⟩ => ⟨S1x1x256, .f32⟩
  | .hbm, ⟨9, _⟩ => ⟨S1x1x256, .f32⟩
  | .hbm, ⟨10, _⟩ => ⟨S2048x328, .i32⟩
  | .hbm, ⟨11, _⟩ => ⟨S2048x328x256, .f32⟩
  | .local _ .vmem, ⟨0, _⟩ => ⟨S32x328x256, .f32⟩
  | .local _ .vmem, ⟨1, _⟩ => ⟨S32x328x256, .f32⟩
  | .local _ .vmem, ⟨2, _⟩ => ⟨S32x328, .i32⟩
  | .local _ .vmem, ⟨3, _⟩ => ⟨S32x328, .i32⟩
  | .local _ .vmem, ⟨4, _⟩ => ⟨S1x1x256, .f32⟩
  | .local _ .vmem, ⟨5, _⟩ => ⟨S1x1x256, .f32⟩
  | .local _ .vmem, ⟨6, _⟩ => ⟨S1x1x256, .f32⟩
  | .local _ .vmem, ⟨7, _⟩ => ⟨S1x1x256, .f32⟩
  | .local _ .vmem, ⟨8, _⟩ => ⟨S32x328x256, .f32⟩
  | .local _ .vmem, ⟨9, _⟩ => ⟨S32x328x256, .f32⟩
  | _, _ => ⟨S2048x328x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x328x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x328 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S32x328x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S2048x328x256 : Shape := ⟨3, ![2048, 328, 256]⟩
abbrev S2048x328 : Shape := ⟨2, ![2048, 328]⟩
abbrev S256 : Shape := ⟨1, ![256]⟩
abbrev S2048x128x256 : Shape := ⟨3, ![2048, 128, 256]⟩
abbrev S2048x128 : Shape := ⟨2, ![2048, 128]⟩
abbrev S2048x128x1 : Shape := ⟨3, ![2048, 128, 1]⟩
abbrev S_ : Shape := ⟨0, ![]⟩
abbrev S2048x1 : Shape := ⟨2, ![2048, 1]⟩
abbrev S2048x1x1 : Shape := ⟨3, ![2048, 1, 1]⟩
abbrev S2048x256 : Shape := ⟨2, ![2048, 256]⟩
abbrev S2048x1x256 : Shape := ⟨3, ![2048, 1, 256]⟩
abbrev S1x1x256 : Shape := ⟨3, ![1, 1, 256]⟩
abbrev S2048x200x256 : Shape := ⟨3, ![2048, 200, 256]⟩
abbrev S2048x200 : Shape := ⟨2, ![2048, 200]⟩
abbrev S2048x200x1 : Shape := ⟨3, ![2048, 200, 1]⟩

abbrev nBuf : Space → Nat
  | .hbm => 119
  | .vmem => 0
  | .smem => 0
  | _ => 0

abbrev bufTy : (tb : Table) → Fin (tcTables nBuf tb) → BufTy
  | .hbm, ⟨0, _⟩ => ⟨S2048x328x256, .f32⟩
  | .hbm, ⟨1, _⟩ => ⟨S2048x328, .i1⟩
  | .hbm, ⟨2, _⟩ => ⟨S256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S2048x128x256, .f32⟩
  | .hbm, ⟨7, _⟩ => ⟨S2048x128, .i1⟩
  | .hbm, ⟨8, _⟩ => ⟨S2048x128, .i1⟩
  | .hbm, ⟨9, _⟩ => ⟨S2048x128x1, .i1⟩
  | .hbm, ⟨10, _⟩ => ⟨S2048x128x1, .f32⟩
  | .hbm, ⟨11, _⟩ => ⟨S_, .f32⟩
  | .hbm, ⟨12, _⟩ => ⟨S2048x1, .f32⟩
  | .hbm, ⟨13, _⟩ => ⟨S2048x1x1, .f32⟩
  | .hbm, ⟨14, _⟩ => ⟨S_, .f32⟩
  | .hbm, ⟨15, _⟩ => ⟨S_, .f32⟩
  | .hbm, ⟨16, _⟩ => ⟨S2048x1x1, .f32⟩
  | .hbm, ⟨17, _⟩ => ⟨S2048x1x1, .f32⟩
  | .hbm, ⟨18, _⟩ => ⟨S_, .f32⟩
  | .hbm, ⟨19, _⟩ => ⟨S2048x1x1, .f32⟩
  | .hbm, ⟨20, _⟩ => ⟨S2048x1x1, .i1⟩
  | .hbm, ⟨21, _⟩ => ⟨S2048x128x256, .f32⟩
  | .hbm, ⟨22, _⟩ => ⟨S2048x128x256, .f32⟩
  | .hbm, ⟨23, _⟩ => ⟨S_, .f32⟩
  | .hbm, ⟨24, _⟩ => ⟨S2048x256, .f32⟩
  | .hbm, ⟨25, _⟩ => ⟨S2048x1x256, .f32⟩
  | .hbm, ⟨26, _⟩ => ⟨S2048x1x256, .f32⟩
  | .hbm, ⟨27, _⟩ => ⟨S2048x1x256, .f32⟩
  | .hbm, ⟨28, _⟩ => ⟨S2048x1x256, .i1⟩
  | .hbm, ⟨29, _⟩ => ⟨S2048x1x256, .f32⟩
  | .hbm, ⟨30, _⟩ => ⟨S2048x128x256, .f32⟩
  | .hbm, ⟨31, _⟩ => ⟨S2048x128x256, .f32⟩
  | .hbm, ⟨32, _⟩ => ⟨S2048x128x256, .f32⟩
  | .hbm, ⟨33, _⟩ => ⟨S_, .f32⟩
  | .hbm, ⟨34, _⟩ => ⟨S2048x256, .f32⟩
  | .hbm, ⟨35, _⟩ => ⟨S2048x1x256, .f32⟩
  | .hbm, ⟨36, _⟩ => ⟨S2048x1x256, .f32⟩
  | .hbm, ⟨37, _⟩ => ⟨S2048x1x256, .f32⟩
  | .hbm, ⟨38, _⟩ => ⟨S_, .f32⟩
  | .hbm, ⟨39, _⟩ => ⟨S_, .f32⟩
  | .hbm, ⟨40, _⟩ => ⟨S2048x1x256, .i1⟩
  | .hbm, ⟨41, _⟩ => ⟨S2048x1x256, .f32⟩
  | .hbm, ⟨42, _⟩ => ⟨S2048x1x256, .f32⟩
  | .hbm, ⟨43, _⟩ => ⟨S_, .f32⟩
  | .hbm, ⟨44, _⟩ => ⟨S2048x1x256, .f32⟩
  | .hbm, ⟨45, _⟩ => ⟨S2048x1x256, .f32⟩
  | .hbm, ⟨46, _⟩ => ⟨S2048x1x256, .f32⟩
  | .hbm, ⟨47, _⟩ => ⟨S_, .f32⟩
  | .hbm, ⟨48, _⟩ => ⟨S_, .f32⟩
  | .hbm, ⟨49, _⟩ => ⟨S2048x1x256, .i1⟩
  | .hbm, ⟨50, _⟩ => ⟨S2048x1x256, .f32⟩
  | .hbm, ⟨51, _⟩ => ⟨S2048x1x256, .f32⟩
  | .hbm, ⟨52, _⟩ => ⟨S2048x128x256, .f32⟩
  | .hbm, ⟨53, _⟩ => ⟨S2048x128x256, .f32⟩
  | .hbm, ⟨54, _⟩ => ⟨S2048x128x256, .f32⟩
  | .hbm, ⟨55, _⟩ => ⟨S2048x128x256, .f32⟩
  | .hbm, ⟨56, _⟩ => ⟨S1x1x256, .f32⟩
  | .hbm, ⟨57, _⟩ => ⟨S2048x128x256, .f32⟩
  | .hbm, ⟨58, _⟩ => ⟨S2048x128x256, .f32⟩
  | .hbm, ⟨59, _⟩ => ⟨S1x1x256, .f32⟩
  | .hbm, ⟨60, _⟩ => ⟨S2048x128x256, .f32⟩
  | .hbm, ⟨61, _⟩ => ⟨S2048x128x256, .f32⟩
  | .hbm, ⟨62, _⟩ => ⟨S2048x200x256, .f32⟩
  | .hbm, ⟨63, _⟩ => ⟨S2048x200, .i1⟩
  | .hbm, ⟨64, _⟩ => ⟨S2048x200, .i1⟩
  | .hbm, ⟨65, _⟩ => ⟨S2048x200x1, .i1⟩
  | .hbm, ⟨66, _⟩ => ⟨S2048x200x1, .f32⟩
  | .hbm, ⟨67, _⟩ => ⟨S_, .f32⟩
  | .hbm, ⟨68, _⟩ => ⟨S2048x1, .f32⟩
  | .hbm, ⟨69, _⟩ => ⟨S2048x1x1, .f32⟩
  | .hbm, ⟨70, _⟩ => ⟨S_, .f32⟩
  | .hbm, ⟨71, _⟩ => ⟨S_, .f32⟩
  | .hbm, ⟨72, _⟩ => ⟨S2048x1x1, .f32⟩
  | .hbm, ⟨73, _⟩ => ⟨S2048x1x1, .f32⟩
  | .hbm, ⟨74, _⟩ => ⟨S_, .f32⟩
  | .hbm, ⟨75, _⟩ => ⟨S2048x1x1, .f32⟩
  | .hbm, ⟨76, _⟩ => ⟨S2048x1x1, .i1⟩
  | .hbm, ⟨77, _⟩ => ⟨S2048x200x256, .f32⟩
  | .hbm, ⟨78, _⟩ => ⟨S2048x200x256, .f32⟩
  | .hbm, ⟨79, _⟩ => ⟨S_, .f32⟩
  | .hbm, ⟨80, _⟩ => ⟨S2048x256, .f32⟩
  | .hbm, ⟨81, _⟩ => ⟨S2048x1x256, .f32⟩
  | .hbm, ⟨82, _⟩ => ⟨S2048x1x256, .f32⟩
  | .hbm, ⟨83, _⟩ => ⟨S2048x1x256, .f32⟩
  | .hbm, ⟨84, _⟩ => ⟨S2048x1x256, .i1⟩
  | .hbm, ⟨85, _⟩ => ⟨S2048x1x256, .f32⟩
  | .hbm, ⟨86, _⟩ => ⟨S2048x200x256, .f32⟩
  | .hbm, ⟨87, _⟩ => ⟨S2048x200x256, .f32⟩
  | .hbm, ⟨88, _⟩ => ⟨S2048x200x256, .f32⟩
  | .hbm, ⟨89, _⟩ => ⟨S_, .f32⟩
  | .hbm, ⟨90, _⟩ => ⟨S2048x256, .f32⟩
  | .hbm, ⟨91, _⟩ => ⟨S2048x1x256, .f32⟩
  | .hbm, ⟨92, _⟩ => ⟨S2048x1x256, .f32⟩
  | .hbm, ⟨93, _⟩ => ⟨S2048x1x256, .f32⟩
  | .hbm, ⟨94, _⟩ => ⟨S_, .f32⟩
  | .hbm, ⟨95, _⟩ => ⟨S_, .f32⟩
  | .hbm, ⟨96, _⟩ => ⟨S2048x1x256, .i1⟩
  | .hbm, ⟨97, _⟩ => ⟨S2048x1x256, .f32⟩
  | .hbm, ⟨98, _⟩ => ⟨S2048x1x256, .f32⟩
  | .hbm, ⟨99, _⟩ => ⟨S_, .f32⟩
  | .hbm, ⟨100, _⟩ => ⟨S2048x1x256, .f32⟩
  | .hbm, ⟨101, _⟩ => ⟨S2048x1x256, .f32⟩
  | .hbm, ⟨102, _⟩ => ⟨S2048x1x256, .f32⟩
  | .hbm, ⟨103, _⟩ => ⟨S_, .f32⟩
  | .hbm, ⟨104, _⟩ => ⟨S_, .f32⟩
  | .hbm, ⟨105, _⟩ => ⟨S2048x1x256, .i1⟩
  | .hbm, ⟨106, _⟩ => ⟨S2048x1x256, .f32⟩
  | .hbm, ⟨107, _⟩ => ⟨S2048x1x256, .f32⟩
  | .hbm, ⟨108, _⟩ => ⟨S2048x200x256, .f32⟩
  | .hbm, ⟨109, _⟩ => ⟨S2048x200x256, .f32⟩
  | .hbm, ⟨110, _⟩ => ⟨S2048x200x256, .f32⟩
  | .hbm, ⟨111, _⟩ => ⟨S2048x200x256, .f32⟩
  | .hbm, ⟨112, _⟩ => ⟨S1x1x256, .f32⟩
  | .hbm, ⟨113, _⟩ => ⟨S2048x200x256, .f32⟩
  | .hbm, ⟨114, _⟩ => ⟨S2048x200x256, .f32⟩
  | .hbm, ⟨115, _⟩ => ⟨S1x1x256, .f32⟩
  | .hbm, ⟨116, _⟩ => ⟨S2048x200x256, .f32⟩
  | .hbm, ⟨117, _⟩ => ⟨S2048x200x256, .f32⟩
  | .hbm, ⟨118, _⟩ => ⟨S2048x328x256, .f32⟩
  | _, _ => ⟨S2048x328x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_call0_v0 : Ref sig .tc := ⟨.hbm, 15, rfl⟩
abbrev main_call0_v1 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_call1_v0 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_call2_v0 : Ref sig .tc := ⟨.hbm, 39, rfl⟩
abbrev main_call2_v1 : Ref sig .tc := ⟨.hbm, 40, rfl⟩
abbrev main_call2_v2 : Ref sig .tc := ⟨.hbm, 41, rfl⟩
abbrev main_v24 : Ref sig .tc := ⟨.hbm, 42, rfl⟩
abbrev main_cst_5 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_6 : Ref sig .tc := ⟨.hbm, 47, rfl⟩
abbrev main_call3_v0 : Ref sig .tc := ⟨.hbm, 48, rfl⟩
abbrev main_call3_v1 : Ref sig .tc := ⟨.hbm, 49, rfl⟩
abbrev main_call3_v2 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_7 : Ref sig .tc := ⟨.hbm, 67, rfl⟩
abbrev main_v44 : Ref sig .tc := ⟨.hbm, 68, rfl⟩
abbrev main_v45 : Ref sig .tc := ⟨.hbm, 69, rfl⟩
abbrev main_cst_8 : Ref sig .tc := ⟨.hbm, 70, rfl⟩
abbrev main_call4_v0 : Ref sig .tc := ⟨.hbm, 71, rfl⟩
abbrev main_call4_v1 : Ref sig .tc := ⟨.hbm, 72, rfl⟩
abbrev main_v46 : Ref sig .tc := ⟨.hbm, 73, rfl⟩
abbrev main_cst_9 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_cst_10 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_call5_v0 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_cst_11 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_cst_12 : Ref sig .tc := ⟨.hbm, 94, rfl⟩
abbrev main_call6_v0 : Ref sig .tc := ⟨.hbm, 95, rfl⟩
abbrev main_call6_v1 : Ref sig .tc := ⟨.hbm, 96, rfl⟩
abbrev main_call6_v2 : Ref sig .tc := ⟨.hbm, 97, rfl⟩
abbrev main_v63 : Ref sig .tc := ⟨.hbm, 98, rfl⟩
abbrev main_cst_13 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_cst_14 : Ref sig .tc := ⟨.hbm, 103, rfl⟩
abbrev main_call7_v0 : Ref sig .tc := ⟨.hbm, 104, rfl⟩
abbrev main_call7_v1 : Ref sig .tc := ⟨.hbm, 105, rfl⟩
abbrev main_call7_v2 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩

abbrev nD : Nat := 1
abbrev τ : Topo := Topo.v7x

variable {F : FTy → Type} [FloatOps F]
-- ==== Proof.Scalar.lean ====
/- The arithmetic of one entry of the masked set norm, over the extended reals: the reference's form and the
   kernel's form of one output entry, and the proof that they agree when the masked inputs and the scale are finite. -/
module

public import Idealize.ShloMosaic.PureOps
public import Idealize.ShloMosaic.PureOps.Ideal
public import Idealize.ShloMosaic.PureOps.Ideal.Laws

@[expose] public section

noncomputable section

namespace Cert.SetNorm

open Idealize.ShloMosaic

/-- An extended real that is neither infinity. -/
def Finite (x : EReal) : Prop := x ≠ ⊤ ∧ x ≠ ⊥

theorem finite_coe (r : ℝ) : Finite (r : EReal) := ⟨EReal.coe_ne_top r, EReal.coe_ne_bot r⟩

/-- A finite extended real is a real number. -/
theorem Finite.real {x : EReal} (h : Finite x) : ∃ r : ℝ, x = (r : EReal) :=
  ⟨x.toReal, (EReal.coe_toReal h.1 h.2).symm⟩

/-- The weight of an entry with mask bit `b`: one when the bit is clear, zero when it is set. -/
def live (b : BitVec 1) : EReal := if b = 1 then 0 else 1

theorem live_finite (b : BitVec 1) : Finite (live b) := by
  unfold live; split
  · exact finite_coe 0
  · exact finite_coe 1

/-- The small number added to the variance before its root is taken (the float word both programs carry). -/
def eps : EReal := Ideal.ofBits .f32 0x358637BD#32

/-- That number is a positive real. -/
theorem eps_real : ∃ e : ℝ, 0 < e ∧ eps = (e : EReal) := by
  refine ⟨(8796093 : ℝ) * 2 ^ (-43 : ℤ), by positivity, ?_⟩
  simp [eps, Ideal.ofBits, Ideal.ieee, -EReal.coe_mul]

section Column

variable {ι : Type} [Fintype ι]

/-- How many entries of a column are live, at least one. -/
def cnt (a : ι → EReal) : EReal := max (∑ k, a k) 1

/-- The first value where more than one entry is live, else the second. -/
def pick (a : ι → EReal) (p q : EReal) : EReal := if 1 < cnt a then p else q

/-- The sum of the live entries. -/
def tot (a x : ι → EReal) : EReal := ∑ k, x k * a k

/-- The column's mean: the sum over the count, or the sum alone where at most one entry is live. -/
def mean (a x : ι → EReal) : EReal := pick a (Ideal.div (tot a x) (cnt a)) (tot a x)

/-- The sum of the squared distances of all masked entries from the mean. -/
def spread (a x : ι → EReal) : EReal := ∑ k, (x k * a k - mean a x) * (x k * a k - mean a x)

/-- The column's deviation: the root of the variance plus `eps`, or one where at most one entry is live. -/
def dev (a x : ι → EReal) : EReal := pick a (Ideal.sqrt (pick a (Ideal.div (spread a x) (cnt a)) 0 + eps)) 1

/-- One output entry as the reference computes it: centre, divide by the deviation, scale, shift. -/
def refEntry (a x : ι → EReal) (w b : EReal) (k : ι) : EReal :=
  Ideal.div (x k * a k - mean a x) (dev a x) * w + b

/-- One output entry as the kernel computes it: one factor and one offset per column. -/
def kerEntry (a x : ι → EReal) (w b : EReal) (k : ι) : EReal :=
  x k * a k * Ideal.div w (dev a x) + (b - mean a x * Ideal.div w (dev a x))

/-- A finite sum of reals, taken in the extended reals, is the real sum. -/
theorem sum_coe (f : ι → ℝ) : ∑ k, ((f k : ℝ) : EReal) = ((∑ k, f k : ℝ) : EReal) := by
  classical
  induction (Finset.univ : Finset ι) using Finset.induction_on with
  | empty => simp
  | insert k s hk ih => rw [Finset.sum_insert hk, Finset.sum_insert hk, ih, EReal.coe_add]

/-- The quotient of a real by a nonzero real is the real quotient. -/
theorem div_real (p : ℝ) {q : ℝ} (h : q ≠ 0) : Ideal.div (p : EReal) (q : EReal) = ((p / q : ℝ) : EReal) := by
  rw [Ideal.div_coe h, ← EReal.coe_mul, mul_one_div]

/-- `pick` of two reals is a real with whatever property both have. -/
theorem pick_real (a : ι → EReal) {Q : ℝ → Prop} {p q : EReal} (hp : ∃ r : ℝ, Q r ∧ p = (r : EReal))
    (hq : ∃ r : ℝ, Q r ∧ q = (r : EReal)) : ∃ r : ℝ, Q r ∧ pick a p q = (r : EReal) := by
  unfold pick; split
  · exact hp
  · exact hq

variable {a x : ι → EReal}

/-- The count of a column with finite weights is a positive real. -/
theorem cnt_real (ha : ∀ k, Finite (a k)) : ∃ n : ℝ, 0 < n ∧ cnt a = (n : EReal) := by
  choose ar har using fun k => (ha k).real
  refine ⟨max (∑ k, ar k) 1, lt_max_of_lt_right one_pos, ?_⟩
  rw [cnt, funext har, sum_coe, ← EReal.coe_one]
  exact (EReal.coe_strictMono.monotone.map_max).symm

/-- The mean of a column whose masked entries are finite is real. -/
theorem mean_real (ha : ∀ k, Finite (a k)) (hz : ∀ k, Finite (x k * a k)) : ∃ μ : ℝ, mean a x = (μ : EReal) := by
  obtain ⟨n, hn, hc⟩ := cnt_real ha
  choose z hz using fun k => (hz k).real
  have ht : tot a x = ((∑ k, z k : ℝ) : EReal) := by
    simp only [tot, hz, sum_coe]
  obtain ⟨μ, -, h⟩ := pick_real a (Q := fun _ => True)
    (p := Ideal.div (tot a x) (cnt a)) (q := tot a x)
    ⟨_, trivial, by rw [ht, hc, div_real _ hn.ne']⟩ ⟨_, trivial, ht⟩
  exact ⟨μ, h⟩

/-- The deviation of a column whose masked entries are finite is a positive real. -/
theorem dev_real (ha : ∀ k, Finite (a k)) (hz : ∀ k, Finite (x k * a k)) : ∃ σ : ℝ, 0 < σ ∧ dev a x = (σ : EReal) := by
  obtain ⟨n, hn, hc⟩ := cnt_real ha
  obtain ⟨μ, hμ⟩ := mean_real ha hz
  obtain ⟨e, he, hee⟩ := eps_real
  choose z hz using fun k => (hz k).real
  have hs : spread a x = ((∑ k, (z k - μ) * (z k - μ) : ℝ) : EReal) := by
    simp only [spread, hμ, hz, ← EReal.coe_mul, ← EReal.coe_sub, sum_coe]
  obtain ⟨v, hv, hve⟩ := pick_real a (Q := fun r => 0 ≤ r)
    (p := Ideal.div (spread a x) (cnt a)) (q := 0)
    ⟨_, div_nonneg (Finset.sum_nonneg fun k _ => mul_self_nonneg _) hn.le, by rw [hs, hc, div_real _ hn.ne']⟩
    ⟨0, le_rfl, EReal.coe_zero.symm⟩
  refine pick_real a ⟨Real.sqrt (v + e), Real.sqrt_pos.mpr (by linarith), ?_⟩ ⟨1, one_pos, EReal.coe_one.symm⟩
  rw [hve, hee, ← EReal.coe_add, Ideal.sqrt_coe, if_neg (by linarith)]

/-- Adding `b` after a real difference is adding the first real to `b` less the second, for every extended real `b`. -/
theorem add_sub_shift (p q : ℝ) (b : EReal) : (p : EReal) + (b - (q : EReal)) = ((p - q : ℝ) : EReal) + b := by
  induction b with
  | bot => simp
  | top => rw [EReal.top_sub_coe, EReal.coe_add_top, EReal.coe_add_top]
  | coe b => norm_cast; ring

/-- THE LAW: with finite masked entries (those times their weights in the mask) and a finite scale the kernel's entry is the reference's, for every bias. -/
theorem kerEntry_eq (ha : ∀ k, Finite (a k)) (hz : ∀ k, Finite (x k * a k)) {w : EReal} (hw : Finite w) (b : EReal) (k : ι) :
    kerEntry a x w b k = refEntry a x w b k := by
  obtain ⟨μ, hμ⟩ := mean_real ha hz
  obtain ⟨σ, hσ, hσe⟩ := dev_real ha hz
  obtain ⟨wr, rfl⟩ := hw.real
  obtain ⟨z, hz⟩ := (hz k).real
  simp only [kerEntry, refEntry, hμ, hσe, hz, ← EReal.coe_mul, ← EReal.coe_sub, div_real _ hσ.ne', add_sub_shift]
  congr 2
  ring

end Column

end Cert.SetNorm

end
-- ==== Proof.Target.lean ====
/- What both programs compute, as one function of the six argument arrays: every entry of the result in the
   reference's form, the two segments of rows read through one row map each; and what the precondition says. -/
module

public import proofs.«01_k».proof.Proof.Scalar
public import proofs.«01_k».proof.Pre_finite_inputs
public import Idealize.ShloMosaic.Lib.Pointwise

@[expose] public section

set_option maxRecDepth 16384

noncomputable section

namespace Cert.SetNorm

open Idealize.ShloMosaic

/-- Row `k` of the first segment, as a row of the whole array. -/
def rowO (k : Fin 128) : Fin 328 := ⟨k, by omega⟩

/-- Row `k` of the second segment, as a row of the whole array. -/
def rowR (k : Fin 200) : Fin 328 := ⟨128 + k, by omega⟩

/-- The result of the masked set norm at every index: rows below 128 are normalised over the first segment, the
    others over the second. -/
def normed (X : FVec Ideal ⟨3, ![2048, 328, 256]⟩ .f32) (M : IVec ⟨2, ![2048, 328]⟩ 1)
    (Wo Bo Wr Br : FVec Ideal ⟨1, ![256]⟩ .f32) : FVec Ideal ⟨3, ![2048, 328, 256]⟩ .f32 := fun j =>
  if h : (j 1 : ℕ) < 128 then
    refEntry (fun k => live (M (ix2 (j 0) (rowO k)))) (fun k => X (ix3 (j 0) (rowO k) (j 2)))
      (Wo (ix1 (j 2))) (Bo (ix1 (j 2))) ⟨j 1, h⟩
  else
    refEntry (fun k => live (M (ix2 (j 0) (rowR k)))) (fun k => X (ix3 (j 0) (rowR k) (j 2)))
      (Wr (ix1 (j 2))) (Br (ix1 (j 2))) ⟨(j 1 : ℕ) - 128, by have := (j 1).isLt; change (j 1 : ℕ) < 328 at this; omega⟩

section Rows
variable (X : FVec Ideal ⟨3, ![2048, 328, 256]⟩ .f32) (M : IVec ⟨2, ![2048, 328]⟩ 1)
  (Wo Bo Wr Br : FVec Ideal ⟨1, ![256]⟩ .f32) (p : Fin 2048) (d : Fin 256)

/-- `normed` at a row of the first segment. -/
theorem normed_rowO (k : Fin 128) : normed X M Wo Bo Wr Br (ix3 p (rowO k) d)
    = refEntry (fun k => live (M (ix2 p (rowO k)))) (fun k => X (ix3 p (rowO k) d)) (Wo (ix1 d)) (Bo (ix1 d)) k :=
  dif_pos k.isLt

/-- `normed` at a row of the second segment. -/
theorem normed_rowR (k : Fin 200) : normed X M Wo Bo Wr Br (ix3 p (rowR k) d)
    = refEntry (fun k => live (M (ix2 p (rowR k)))) (fun k => X (ix3 p (rowR k) d)) (Wr (ix1 d)) (Br (ix1 d)) k := by
  refine (dif_neg (show ¬ 128 + (k : ℕ) < 128 by omega)).trans (congrArg _ (Fin.ext ?_))
  show 128 + (k : ℕ) - 128 = k
  omega

end Rows

/-- Every entry of `X`, once masked, is finite: a masked entry counts as zero whatever it holds. -/
def MaskedFinite (X : FVec Ideal ⟨3, ![2048, 328, 256]⟩ .f32) (M : IVec ⟨2, ![2048, 328]⟩ 1) : Prop :=
  ∀ (p : Fin 2048) (r : Fin 328) (d : Fin 256), Finite (X (ix3 p r d) * live (M (ix2 p r)))

/-- The comparison `|x| < ∞` came out true exactly where `x` is finite; this is the direction needed. -/
theorem finite_of_abs_lt (x : EReal)
    (h : BitVec.ofBool (decide (FloatOps.absf (F := Ideal) (φ := .f32) x < Ideal.ofBits .f32 0x7F800000#32)) = 1#1) :
    Finite x := by
  have ht : Ideal.ofBits .f32 0x7F800000#32 = ⊤ := by simp [Ideal.ofBits, Ideal.ieee]
  have h' : max x (-x) < ⊤ := by
    by_contra hn
    rw [ht, decide_eq_false (show ¬ FloatOps.absf (F := Ideal) (φ := .f32) x < ⊤ from hn)] at h
    exact absurd h (by decide)
  constructor
  · rintro rfl; simp at h'
  · rintro rfl; simp at h'

section Pre
variable [Cert.Pre_finite_inputs.Facts]
variable {X : FVec Ideal ⟨3, ![2048, 328, 256]⟩ .f32} {M : IVec ⟨2, ![2048, 328]⟩ 1}
  {Wo Bo Wr Br : FVec Ideal ⟨1, ![256]⟩ .f32}

/-- The precondition's first array is all ones: every entry of `x`, once masked, is finite. -/
theorem finite_x (h : (Cert.Pre_finite_inputs.fn (F := Ideal) X M Wo Bo Wr Br).1 = fun _ => 1#1) :
    MaskedFinite X M := by
  intro p r d
  have h := congrFun h (ix3 p r d)
  pointwise [Cert.Pre_finite_inputs.fn] at h
  obtain hM | hM : M (ix2 p r) = 1#1 ∨ M (ix2 p r) = 0#1 := by
    generalize M (ix2 p r) = b
    revert b; decide
  · rw [hM, show live 1#1 = 0 from rfl, mul_zero]
    exact finite_coe 0
  · rw [hM, show live 0#1 = 1 from rfl, mul_one]
    rw [hM] at h
    refine finite_of_abs_lt _ (Eq.trans ?_ h)
    exact (BitVec.zero_or).symm

/-- The precondition's second array is all ones: every weight of the first segment is finite. -/
theorem finite_wo (h : (Cert.Pre_finite_inputs.fn (F := Ideal) X M Wo Bo Wr Br).2.1 = fun _ => 1#1) (j) : Finite (Wo j) := by
  have h := congrFun h j
  pointwise [Cert.Pre_finite_inputs.fn] at h
  exact finite_of_abs_lt _ h

/-- The precondition's third array is all ones: every weight of the second segment is finite. -/
theorem finite_wr (h : (Cert.Pre_finite_inputs.fn (F := Ideal) X M Wo Bo Wr Br).2.2 = fun _ => 1#1) (j) : Finite (Wr j) := by
  have h := congrFun h j
  pointwise [Cert.Pre_finite_inputs.fn] at h
  exact finite_of_abs_lt _ h

end Pre

end Cert.SetNorm

end
-- ==== Proof.Ref.lean ====
/- The reference's result array is `normed` of its arguments. -/
module

public import proofs.«01_k».proof.Proof.Target
public import proofs.«01_k».proof.Proof.Gen.ReferenceIdeal.Run
public import Idealize.ShloMosaic.Lib.Pointwise

@[expose] public section

set_option maxRecDepth 16384

noncomputable section

namespace Cert.ReferenceIdeal.Value

open Cert.ReferenceIdeal Cert.ReferenceIdeal.Gen Idealize.ShloMosaic Idealize.ShloMosaic.TcCoe Cert.SetNorm

/-- The reference's weight of an entry, the complement of its mask bit read as a number, is `live`. -/
theorem uitofp_not (b : BitVec 1) : FloatOps.uitofp (F := Ideal) FTy.f32 (~~~b) = live b := by
  show (((~~~b).toNat : ℝ) : EReal) = live b
  obtain rfl | rfl : b = 0#1 ∨ b = 1#1 := by revert b; decide
  · simp [live]
  · simp [live]

/-- The scalar one, read out of its one-element array. -/
theorem one_at : id (constant (F := Ideal) S_ FTy.f32 0x3F800000#32) ix0 = (1 : EReal) := Ideal.ofBits_one_f32

/-- The scalar zero, read out of its one-element array. -/
theorem zero_at : id (constant (F := Ideal) S_ FTy.f32 0x00000000#32) ix0 = (0 : EReal) := Ideal.ofBits_zero_f32

/-- The reference's result, entry by entry. -/
theorem result (m : (ℓ : Loc nD τ sig) → Buf (Elt Ideal) ℓ) (c : Dev nD) :
    res_main_v78 (F := Ideal) m c = normed (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5)) := by
  funext j
  idx_vars j
  pointwise [res_main_v78]
  simp only [uitofp_not, one_at, zero_at, max_comm (1 : EReal)]
  by_cases h : (j1 : ℕ) < 128
  · exact (dif_pos h).trans (Eq.symm (dif_pos h))
  · exact (dif_neg h).trans (Eq.symm (dif_neg h))

end Cert.ReferenceIdeal.Value

end
-- ==== Proof.Block.lean ====
/- One grid point of the kernel: its two stored tiles, entry by entry, in the kernel's form of the set norm. -/
module

public import proofs.«01_k».proof.Proof.Target
public import proofs.«01_k».proof.Proof.Gen.KernelIdeal.Skeleton
public import Idealize.ShloMosaic.Lib.Pointwise

@[expose] public section

set_option maxRecDepth 16384

noncomputable section

namespace Cert.KernelIdeal.Block

open Cert.KernelIdeal Cert.KernelIdeal.Gen Idealize.ShloMosaic Cert.SetNorm

/-- The kernel's weight of an entry, a choice on its mask word, is `live` of the bit that the word widens. -/
theorem weight (b : BitVec 1) : Scalar.select (IntOp.cmpi CmpIPredicate.ne (b.setWidth 32) 0#32) (0 : EReal) 1 = live b := by
  obtain rfl | rfl : b = 0#1 ∨ b = 1#1 := by revert b; decide
  · rfl
  · rfl

variable (X : Vec Ideal S32x328x256 .f32) (N : Vec Ideal S32x328 .i32) (W B : Vec Ideal S1x1x256 .f32)

/-- The tile stored over the first segment's rows. -/
theorem first (b : Fin 32) (k : Fin 128) (d : Fin 256) :
    k0_pay13 (F := Ideal) (k0_pay6 W) (k0_pay7 B) (k0_pay8 N) (k0_pay9 N) (k0_pay10 X N) (k0_pay11 X N) (k0_pay12 X N) (ix3 b k d)
      = kerEntry (fun k => k0_pay2 (F := Ideal) N (ix2 b (rowO k))) (fun k => X (ix3 b (rowO k) d))
          (W (ix3 0 0 d)) (B (ix3 0 0 d)) k := by
  pointwise [k0_pay13, k0_pay6, k0_pay7, k0_pay8, k0_pay9, k0_pay10, k0_pay11, k0_pay12, k0_pay3]
  simp only [Fin.sum_univ_one]
  rfl

/-- The tile stored over the second segment's rows. -/
theorem second (b : Fin 32) (k : Fin 200) (d : Fin 256) :
    k0_pay1 (F := Ideal) (k0_pay14 W) (k0_pay15 B) (k0_pay16 (k0_pay5 N)) (k0_pay17 (k0_pay5 N))
        (k0_pay18 X (k0_pay4 N)) (k0_pay19 X (k0_pay4 N)) (ix3 b k d)
      = kerEntry (fun k => k0_pay2 (F := Ideal) N (ix2 b (rowR k))) (fun k => X (ix3 b (rowR k) d))
          (W (ix3 0 0 d)) (B (ix3 0 0 d)) k := by
  pointwise [k0_pay1, k0_pay14, k0_pay15, k0_pay16, k0_pay17, k0_pay18, k0_pay19, k0_pay4, k0_pay5]
  simp only [Fin.sum_univ_one]
  rfl

end Cert.KernelIdeal.Block

end
-- ==== Proof.Value.lean ====
/- The kernel's result array is `normed` of its arguments, when no live entry of `x` and no weight is infinite. -/
module

public import proofs.«01_k».proof.Proof.Block
public import proofs.«01_k».proof.Proof.Gen.KernelIdeal.Value
public import Idealize.ShloMosaic.Lib.Pipeline.ValueKit
public import Idealize.ShloMosaic.Lib.Claim

@[expose] public section

set_option maxRecDepth 16384

noncomputable section

namespace Cert.KernelIdeal.Value

open Cert.KernelIdeal Cert.KernelIdeal.Gen Idealize.ShloMosaic Idealize.ShloMosaic.TcCoe Cert.SetNorm

variable (m : (ℓ : Loc nD τ sig) → Buf (Elt Ideal) ℓ)

/-- The block each window shows at each grid point. -/
theorem idx : ∀ t : Fin cfg0.N, win0_0.index t = ![t.val, 0, 0] ∧ win0_1.index t = ![t.val, 0]
    ∧ win0_2.index t = ![0, 0, 0] ∧ win0_3.index t = ![0, 0, 0] ∧ win0_4.index t = ![0, 0, 0] ∧ win0_5.index t = ![0, 0, 0]
    ∧ win0_6.index t = ![t.val, 0, 0] :=
  (by decide +kernel : ∀ t : Fin grid0.N, _)

/-- The batch row that row `b` of the block at grid point `t` is. -/
def batch (t : Fin cfg0.N) (b : Fin 32) : Fin 2048 := ⟨t.val * 32 + b, by have : t.val < 64 := t.isLt; omega⟩

/-- The block of `x` at a grid point. -/
theorem read_x (c : Dev nD) (t : Fin cfg0.N) (b : Fin 32) (r : Fin 328) (d : Fin 256) :
    iblk m c 0 t (ix3 b r d) = m ((c : Thread nD τ).loc main_arg0) (ix3 (batch t b) r d) := by
  blk_point [iblk, V, idx t, batch]

/-- The kernel's weights at a grid point. -/
theorem read_mask (c : Dev nD) (t : Fin cfg0.N) (b : Fin 32) (r : Fin 328) :
    k0_pay2 (F := Ideal) (iblk m c 1 t) (ix2 b r) = live (m ((c : Thread nD τ).loc main_arg1) (ix2 (batch t b) r)) := by
  have e : ((View.whole main_v4).slice (win0_1.rect t)).emb (ix2 b r) = ix2 (batch t b) r := by blk_ext [idx t, batch]
  pointwise [k0_pay2]
  rw [← Block.weight]
  simp only [iblk]
  entry_read
  exact congrArg (fun z => Scalar.select (IntOp.cmpi CmpIPredicate.ne
    ((m ((c : Thread nD τ).loc main_arg1) z).setWidth 32) 0#32) (0 : EReal) 1) e

/-- The block of the first segment's weights, the same at every grid point. -/
theorem read_wo (c : Dev nD) (t : Fin cfg0.N) (d : Fin 256) :
    iblk m c 2 t (ix3 0 0 d) = m ((c : Thread nD τ).loc main_arg2) (ix1 d) := by
  have e : ((View.whole main_v0).slice (win0_2.rect t)).emb (ix3 0 0 d) = ix3 0 0 d := by blk_ext [idx t]
  simp only [iblk]
  entry_read
  refine (congrArg (shapeCast main_v0.ty.shape (m (c, Proc.tc.devRef main_arg2)) shapeCasts_S256_S1x1x256) e).trans ?_
  pointwise

/-- The block of the first segment's biases, the same at every grid point. -/
theorem read_bo (c : Dev nD) (t : Fin cfg0.N) (d : Fin 256) :
    iblk m c 3 t (ix3 0 0 d) = m ((c : Thread nD τ).loc main_arg3) (ix1 d) := by
  have e : ((View.whole main_v1).slice (win0_3.rect t)).emb (ix3 0 0 d) = ix3 0 0 d := by blk_ext [idx t]
  simp only [iblk]
  entry_read
  refine (congrArg (shapeCast main_v1.ty.shape (m (c, Proc.tc.devRef main_arg3)) shapeCasts_S256_S1x1x256) e).trans ?_
  pointwise

/-- The block of the second segment's weights, the same at every grid point. -/
theorem read_wr (c : Dev nD) (t : Fin cfg0.N) (d : Fin 256) :
    iblk m c 4 t (ix3 0 0 d) = m ((c : Thread nD τ).loc main_arg4) (ix1 d) := by
  have e : ((View.whole main_v2).slice (win0_4.rect t)).emb (ix3 0 0 d) = ix3 0 0 d := by blk_ext [idx t]
  simp only [iblk]
  entry_read
  refine (congrArg (shapeCast main_v2.ty.shape (m (c, Proc.tc.devRef main_arg4)) shapeCasts_S256_S1x1x256) e).trans ?_
  pointwise

/-- The block of the second segment's biases, the same at every grid point. -/
theorem read_br (c : Dev nD) (t : Fin cfg0.N) (d : Fin 256) :
    iblk m c 5 t (ix3 0 0 d) = m ((c : Thread nD τ).loc main_arg5) (ix1 d) := by
  have e : ((View.whole main_v3).slice (win0_5.rect t)).emb (ix3 0 0 d) = ix3 0 0 d := by blk_ext [idx t]
  simp only [iblk]
  entry_read
  refine (congrArg (shapeCast main_v3.ty.shape (m (c, Proc.tc.devRef main_arg5)) shapeCasts_S256_S1x1x256) e).trans ?_
  pointwise

/-- Where row `r` of the block at a grid point lies in the result. -/
theorem emb_out (t : Fin cfg0.N) (y : S32x328x256.Idx) (b : Fin 32) (r : Fin 328) (d : Fin 256)
    (h0 : (y 0 : ℕ) = b) (h1 : (y 1 : ℕ) = r) (h2 : (y 2 : ℕ) = d) :
    ((View.whole main_v5).slice (win0_6.rect t)).emb y = ix3 (batch t b) r d := by
  blk_ext [idx t, batch]

/-- The two stored tiles cover the block: a row is below 128 or not. -/
theorem tiles_cover (P : FVec Ideal S32x200x256 .f32) (Q : FVec Ideal S32x128x256 .f32) (y : S32x328x256.Idx) :
    ∃ p ∈ ([⟨Rect.unit ![0, 128, 0] ![32, 200, 256] inb_S32x328x256_S32x200x256_0_128_0, P⟩,
        ⟨Rect.unit ![0, 0, 0] ![32, 128, 256] inb_S32x328x256_S32x128x256_0_0_0, Q⟩] :
        List ((r : Rect S32x328x256) × (r.shape.Idx → Elt Ideal .f32))), y ∈ p.1.set := by
  have h0 : (y 0 : ℕ) < 32 := (y 0).isLt
  have h1 : (y 1 : ℕ) < 328 := (y 1).isLt
  have h2 : (y 2 : ℕ) < 256 := (y 2).isLt
  by_cases h : (y 1 : ℕ) < 128
  · refine ⟨_, .tail _ (.head _), (Rect.mem_set_unit (inb := inb_S32x328x256_S32x128x256_0_0_0)).mpr fun a => ?_⟩
    match a with
    | 0 => exact ⟨Nat.zero_le _, by simpa using h0⟩
    | 1 => exact ⟨Nat.zero_le _, by simpa using h⟩
    | 2 => exact ⟨Nat.zero_le _, by simpa using h2⟩
  · refine ⟨_, .head _, (Rect.mem_set_unit (inb := inb_S32x328x256_S32x200x256_0_128_0)).mpr fun a => ?_⟩
    match a with
    | 0 => exact ⟨Nat.zero_le _, by simpa using h0⟩
    | 1 => exact ⟨by simpa using h, by simpa using h1⟩
    | 2 => exact ⟨Nat.zero_le _, by simpa using h2⟩

/-- The kernel's result, entry by entry. -/
theorem final (c : Dev nD)
    (hx : MaskedFinite (m ((c : Thread nD τ).loc main_arg0)) (m ((c : Thread nD τ).loc main_arg1)))
    (hwo : ∀ j, Finite (m ((c : Thread nD τ).loc main_arg2) j))
    (hwr : ∀ j, Finite (m ((c : Thread nD τ).loc main_arg4) j)) :
    (dats m 0 c).arrAt 6 (cfgs 0).N = normed (m ((c : Thread nD τ).loc main_arg0)) (m ((c : Thread nD τ).loc main_arg1))
      (m ((c : Thread nD τ).loc main_arg2)) (m ((c : Thread nD τ).loc main_arg3))
      (m ((c : Thread nD τ).loc main_arg4)) (m ((c : Thread nD τ).loc main_arg5)) := by
  refine (dats m 0 c).arrAt_eq_of_covers 6 _ (by decide +kernel) fun t hf y => ?_
  blk_simp
  rw [after0_6]
  unfold outsAt0
  frame_out
  canon_tiles x h using tiles_cover _ _ y
  · idx_vars x
    rw [emb_out t y x0 (rowR x1) x2 h0 h1 h2, normed_rowR, Block.second]
    simp only [read_x, read_mask, read_wr, read_br]
    exact kerEntry_eq (fun _ => live_finite _) (fun _ => hx _ _ _) (hwr _) _ _
  · idx_vars x
    rw [emb_out t y x0 (rowO x1) x2 h0 h1 h2, normed_rowO, Block.first]
    simp only [read_x, read_mask, read_wo, read_bo]
    exact kerEntry_eq (fun _ => live_finite _) (fun _ => hx _ _ _) (hwo _) _ _

end Cert.KernelIdeal.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Target
public import proofs.«01_k».proof.Proof.Ref
public import proofs.«01_k».proof.Proof.Value
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The precondition's broadcasts have the shapes they need. -/
instance pre_facts : Cert.Pre_finite_inputs.Facts := ⟨by decide, by decide, by decide, by decide⟩

/-- The reference runs to its end, leaves its arguments as they were and every semaphore at zero. -/
theorem frame_reference [Cert.ReferenceIdeal.Facts] : Cert.quiescent_ReferenceIdeal := by
  intro m g _
  exact (θ_run _ _ _).mono (fun r h => ⟨fun c => (h c).2, Idealize.ShloMosaic.sem_eq_zero_of_no_sems (by decide) r.2⟩)
    (Cert.ReferenceIdeal.Value.run (F := Ideal) m g)

/-- Under the precondition the two programs' results are equal: both are `normed` of the arguments. -/
theorem algebraic : Cert.algebraic_KernelIdeal_ReferenceIdeal_pre_finite_inputs := by
  pair_intro
  · run_from Cert.KernelIdeal.Value.run_blocks m g
  · run_from Cert.ReferenceIdeal.Value.run m' g'
    obtain ⟨h0, h1, h2, h3, h4, h5⟩ := hagree c
    rw [Cert.ReferenceIdeal.Value.result, h0, h1, h2, h3, h4, h5]
    exact (Cert.KernelIdeal.Value.final m c (Cert.SetNorm.finite_x (hpre c).1) (Cert.SetNorm.finite_wo (hpre c).2.1)
      (Cert.SetNorm.finite_wr (hpre c).2.2)).symm

/-- Every claim of this directory. -/
theorem claim : Cert.Claim := ⟨Cert.Kernel.Gen.facts, Cert.KernelIdeal.Gen.facts, Cert.ReferenceIdeal.Gen.facts, pre_facts,
  fun m g _ => Cert.Kernel.Gen.frame m g, fun m g _ => Cert.KernelIdeal.Gen.frame m g, fun m g _ => Cert.KernelIdeal.Gen.frame m g,
  frame_reference, fun m g _ => frame_reference m g trivial, trivial, algebraic⟩

end Cert.Proof

end
